-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x3 : Shape := ⟨2, ![10000, 3]⟩
abbrev S160000x128 : Shape := ⟨2, ![160000, 128]⟩
abbrev S2x160000 : Shape := ⟨2, ![2, 160000]⟩
abbrev S256x4 : Shape := ⟨2, ![256, 4]⟩
abbrev S4 : Shape := ⟨1, ![4]⟩
abbrev S64x4 : Shape := ⟨2, ![64, 4]⟩
abbrev S128x256 : Shape := ⟨2, ![128, 256]⟩
abbrev S256 : Shape := ⟨1, ![256]⟩
abbrev S128x128 : Shape := ⟨2, ![128, 128]⟩
abbrev S128 : Shape := ⟨1, ![128]⟩
abbrev S_ : Shape := ⟨0, ![]⟩

class Facts : Prop where
  bcast_S_S160000x128 : S_.BroadcastsInDim S160000x128 (![] : Fin 0 → Fin S160000x128.rank)
  bcast_S_S64x4 : S_.BroadcastsInDim S64x4 (![] : Fin 0 → Fin S64x4.rank)
  bcast_S_S4 : S_.BroadcastsInDim S4 (![] : Fin 0 → Fin S4.rank)
  bcast_S_S128x256 : S_.BroadcastsInDim S128x256 (![] : Fin 0 → Fin S128x256.rank)
  bcast_S_S256 : S_.BroadcastsInDim S256 (![] : Fin 0 → Fin S256.rank)
  bcast_S_S128x128 : S_.BroadcastsInDim S128x128 (![] : Fin 0 → Fin S128x128.rank)

variable [Facts]

def fn_part1 {F : FTy → Type} [FloatOps F] (main_arg12 : FVec F S128x128 .f32) (main_v2 : IVec S160000x128 1) (main_v5 : IVec S64x4 1) (main_v8 : IVec S4 1) (main_v11 : IVec S128x256 1) (main_v14 : IVec S256 1) (main_v17 : IVec S128x128 1) : IVec S160000x128 1 × IVec S64x4 1 × IVec S4 1 × IVec S128x256 1 × IVec S256 1 × IVec S128x128 1 × IVec S128x128 1 :=
  let main_v18 : FVec F S128x128 .f32 := Host.absf main_arg12
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  (main_v2, main_v5, main_v8, main_v11, main_v14, main_v17, main_v20)

def fn {F : FTy → Type} [FloatOps F] (main_arg0 : FVec F S10000x128 .f32) (main_arg1 : FVec F S10000x3 .f32) (main_arg2 : FVec F S160000x128 .f32) (main_arg3 : IVec S2x160000 32) (main_arg4 : FVec F S256x4 .f32) (main_arg5 : FVec F S4 .f32) (main_arg6 : FVec F S64x4 .f32) (main_arg7 : FVec F S4 .f32) (main_arg8 : FVec F S128x256 .f32) (main_arg9 : FVec F S256 .f32) (main_arg10 : FVec F S128x128 .f32) (main_arg11 : FVec F S128 .f32) (main_arg12 : FVec F S128x128 .f32) (main_arg13 : FVec F S128 .f32) : IVec S160000x128 1 × IVec S64x4 1 × IVec S4 1 × IVec S128x256 1 × IVec S256 1 × IVec S128x128 1 × IVec S128x128 1 :=
  let main_v0 : FVec F S160000x128 .f32 := Host.absf main_arg2
  let main_cst : FVec F S_ .f32 := constant S_ .f32 0x7F800000#32
  let main_v1 : FVec F S160000x128 .f32 := broadcastInDim S160000x128 ![] bcast_S_S160000x128 main_cst
  let main_v2 : IVec S160000x128 1 := cmpf .olt main_v0 main_v1
  let main_v3 : FVec F S64x4 .f32 := Host.absf main_arg6
  let main_cst_0 : FVec F S_ .f32 := constant S_ .f32 0x7F800000#32
  let main_v4 : FVec F S64x4 .f32 := broadcastInDim S64x4 ![] bcast_S_S64x4 main_cst_0
  let main_v5 : IVec S64x4 1 := cmpf .olt main_v3 main_v4
  let main_v6 : FVec F S4 .f32 := Host.absf main_arg7
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_v12 : FVec F S256 .f32 := Host.absf main_arg9
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S128x128 .f32 := Host.absf main_arg10
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg12 main_v2 main_v5 main_v8 main_v11 main_v14 main_v17
-- ==== Kernel.lean ====
abbrev S10000x128 : Shape := ⟨2, ![10000, 128]⟩
abbrev S10000x3 : Shape := ⟨2, ![10000, 3]⟩
abbrev S160000x128 : Shape := ⟨2, ![160000, 128]⟩
abbrev S2x160000 : Shape := ⟨2, ![2, 160000]⟩
abbrev S256x4 : Shape := ⟨2, ![256, 4]⟩
abbrev S4 : Shape := ⟨1, ![4]⟩
abbrev S64x4 : Shape := ⟨2, ![64, 4]⟩
abbrev S128x256 : Shape := ⟨2, ![128, 256]⟩
abbrev S256 : Shape := ⟨1, ![256]⟩
abbrev S128x128 : Shape := ⟨2, ![128, 128]⟩
abbrev S128 : Shape := ⟨1, ![128]⟩
abbrev S1x128 : Shape := ⟨2, ![1, 128]⟩
abbrev S32000x128 : Shape := ⟨2, ![32000, 128]⟩

abbrev nBuf : Space → Nat
  | .hbm => 17
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S160000x128, .f32⟩
  | .hbm, ⟨3, _⟩ => ⟨S2x160000, .i32⟩
  | .hbm, ⟨4, _⟩ => ⟨S256x4, .f32⟩
  | .hbm, ⟨5, _⟩ => ⟨S4, .f32⟩
  | .hbm, ⟨6, _⟩ => ⟨S64x4, .f32⟩
  | .hbm, ⟨7, _⟩ => ⟨S4, .f32⟩
  | .hbm, ⟨8, _⟩ => ⟨S128x256, .f32⟩
  | .hbm, ⟨9, _⟩ => ⟨S256, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S160000x128, .f32⟩
  | .local _ .vmem, ⟨0, _⟩ => ⟨S32000x128, .f32⟩
  | .local _ .vmem, ⟨1, _⟩ => ⟨S32000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S32000x128, .f32⟩
  | .local _ .vmem, ⟨7, _⟩ => ⟨S32000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10000x128 : Shape := ⟨2, ![10000, 128]⟩
abbrev S10000x3 : Shape := ⟨2, ![10000, 3]⟩
abbrev S160000x128 : Shape := ⟨2, ![160000, 128]⟩
abbrev S2x160000 : Shape := ⟨2, ![2, 160000]⟩
abbrev S256x4 : Shape := ⟨2, ![256, 4]⟩
abbrev S4 : Shape := ⟨1, ![4]⟩
abbrev S64x4 : Shape := ⟨2, ![64, 4]⟩
abbrev S128x256 : Shape := ⟨2, ![128, 256]⟩
abbrev S256 : Shape := ⟨1, ![256]⟩
abbrev S128x128 : Shape := ⟨2, ![128, 128]⟩
abbrev S128 : Shape := ⟨1, ![128]⟩
abbrev S1x160000 : Shape := ⟨2, ![1, 160000]⟩
abbrev S160000 : Shape := ⟨1, ![160000]⟩
abbrev S10000x16 : Shape := ⟨2, ![10000, 16]⟩
abbrev S10000x16x128 : Shape := ⟨3, ![10000, 16, 128]⟩
abbrev S_ : Shape := ⟨0, ![]⟩
abbrev S10000x16x1 : Shape := ⟨3, ![10000, 16, 1]⟩
abbrev S128x4 : Shape := ⟨2, ![128, 4]⟩
abbrev S10000x16x4 : Shape := ⟨3, ![10000, 16, 4]⟩
abbrev S10000x16x1x4 : Shape := ⟨4, ![10000, 16, 1, 4]⟩
abbrev S10000x1x16x4 : Shape := ⟨4, ![10000, 1, 16, 4]⟩
abbrev S10000x16x16x4 : Shape := ⟨4, ![10000, 16, 16, 4]⟩
abbrev S1x1x1x4 : Shape := ⟨4, ![1, 1, 1, 4]⟩
abbrev S10000x16x3 : Shape := ⟨3, ![10000, 16, 3]⟩
abbrev S10000x16x1x3 : Shape := ⟨4, ![10000, 16, 1, 3]⟩
abbrev S10000x1x16x3 : Shape := ⟨4, ![10000, 1, 16, 3]⟩
abbrev S10000x16x16x3 : Shape := ⟨4, ![10000, 16, 16, 3]⟩
abbrev S10000x16x16 : Shape := ⟨3, ![10000, 16, 16]⟩
abbrev S63 : Shape := ⟨1, ![63]⟩
abbrev S1 : Shape := ⟨1, ![1]⟩
abbrev S64 : Shape := ⟨1, ![64]⟩
abbrev S10000x16x16x1 : Shape := ⟨4, ![10000, 16, 16, 1]⟩
abbrev S1x1x1x64 : Shape := ⟨4, ![1, 1, 1, 64]⟩
abbrev S10000x16x16x64 : Shape := ⟨4, ![10000, 16, 16, 64]⟩
abbrev S10000x16x256 : Shape := ⟨3, ![10000, 16, 256]⟩
abbrev S1x1x256 : Shape := ⟨3, ![1, 1, 256]⟩
abbrev S10000x16x4x32 : Shape := ⟨4, ![10000, 16, 4, 32]⟩
abbrev S10000x16x32x4 : Shape := ⟨4, ![10000, 16, 32, 4]⟩
abbrev S10000x4x16x16 : Shape := ⟨4, ![10000, 4, 16, 16]⟩
abbrev S10000x1x16 : Shape := ⟨3, ![10000, 1, 16]⟩
abbrev S1x1x128 : Shape := ⟨3, ![1, 1, 128]⟩
abbrev S10000x16x1x4x32 : Shape := ⟨5, ![10000, 16, 1, 4, 32]⟩
abbrev S10000x16x16x4x1 : Shape := ⟨5, ![10000, 16, 16, 4, 1]⟩
abbrev S10000x16x16x4x32 : Shape := ⟨5, ![10000, 16, 16, 4, 32]⟩
abbrev S10000x16x16x1x1 : Shape := ⟨5, ![10000, 16, 16, 1, 1]⟩

abbrev nBuf : Space → Nat
  | .hbm => 172
  | .vmem => 0
  | .smem => 0
  | _ => 0

abbrev hbmTy0_0 (i : Nat) : BufTy := match i % 128 with
  | 0 => ⟨S10000x128, .f32⟩
  | 1 => ⟨S10000x3, .f32⟩
  | 2 => ⟨S160000x128, .f32⟩
  | 3 => ⟨S2x160000, .i32⟩
  | 4 => ⟨S256x4, .f32⟩
  | 5 => ⟨S4, .f32⟩
  | 6 => ⟨S64x4, .f32⟩
  | 7 => ⟨S4, .f32⟩
  | 8 => ⟨S128x256, .f32⟩
  | 9 => ⟨S256, .f32⟩
  | 10 => ⟨S128x128, .f32⟩
  | 11 => ⟨S128, .f32⟩
  | 12 => ⟨S128x128, .f32⟩
  | 13 => ⟨S128, .f32⟩
  | 14 => ⟨S1x160000, .i32⟩
  | 15 => ⟨S160000, .i32⟩
  | 16 => ⟨S10000x16, .i32⟩
  | 17 => ⟨S10000x16x128, .f32⟩
  | 18 => ⟨S_, .i1⟩
  | 19 => ⟨S10000x16, .i1⟩
  | 20 => ⟨S_, .i32⟩
  | 21 => ⟨S10000x16, .i32⟩
  | 22 => ⟨S10000x16, .i1⟩
  | 23 => ⟨S_, .i32⟩
  | 24 => ⟨S10000x16, .i32⟩
  | 25 => ⟨S10000x16, .i32⟩
  | 26 => ⟨S10000x16, .i32⟩
  | 27 => ⟨S10000x16x1, .i32⟩
  | 28 => ⟨S10000x16x128, .f32⟩
  | 29 => ⟨S128x4, .f32⟩
  | 30 => ⟨S10000x16x4, .f32⟩
  | 31 => ⟨S128x4, .f32⟩
  | 32 => ⟨S10000x16x4, .f32⟩
  | 33 => ⟨S10000x16x1x4, .f32⟩
  | 34 => ⟨S10000x1x16x4, .f32⟩
  | 35 => ⟨S10000x16x16x4, .f32⟩
  | 36 => ⟨S10000x16x16x4, .f32⟩
  | 37 => ⟨S10000x16x16x4, .f32⟩
  | 38 => ⟨S1x1x1x4, .f32⟩
  | 39 => ⟨S10000x16x16x4, .f32⟩
  | 40 => ⟨S10000x16x16x4, .f32⟩
  | 41 => ⟨S10000x16x16x4, .f32⟩
  | 42 => ⟨S10000x16x16x4, .f32⟩
  | 43 => ⟨S_, .f32⟩
  | 44 => ⟨S10000x16x16x4, .f32⟩
  | 45 => ⟨S10000x16x16x4, .f32⟩
  | 46 => ⟨S_, .f32⟩
  | 47 => ⟨S10000x16x16x4, .f32⟩
  | 48 => ⟨S10000x16x16x4, .f32⟩
  | 49 => ⟨S_, .i32⟩
  | 50 => ⟨S10000x16, .i32⟩
  | 51 => ⟨S10000x16, .i1⟩
  | 52 => ⟨S_, .i32⟩
  | 53 => ⟨S10000x16, .i32⟩
  | 54 => ⟨S10000x16, .i32⟩
  | 55 => ⟨S10000x16, .i32⟩
  | 56 => ⟨S10000x16x1, .i32⟩
  | 57 => ⟨S10000x16x3, .f32⟩
  | 58 => ⟨S10000x16x1x3, .f32⟩
  | 59 => ⟨S10000x1x16x3, .f32⟩
  | 60 => ⟨S10000x16x16x3, .f32⟩
  | 61 => ⟨S10000x16x16x3, .f32⟩
  | 62 => ⟨S10000x16x16x3, .f32⟩
  | 63 => ⟨S_, .f32⟩
  | 64 => ⟨S10000x16x16x3, .f32⟩
  | 65 => ⟨S10000x16x16x3, .f32⟩
  | 66 => ⟨S10000x16x16x3, .f32⟩
  | 67 => ⟨S_, .f32⟩
  | 68 => ⟨S10000x16x16, .f32⟩
  | 69 => ⟨S10000x16x16, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S63, .f32⟩
  | 78 => ⟨S_, .f32⟩
  | 79 => ⟨S63, .f32⟩
  | 80 => ⟨S63, .f32⟩
  | 81 => ⟨S1, .f32⟩
  | 82 => ⟨S_, .f32⟩
  | 83 => ⟨S63, .f32⟩
  | 84 => ⟨S63, .f32⟩
  | 85 => ⟨S63, .f32⟩
  | 86 => ⟨S63, .f32⟩
  | 87 => ⟨S1, .f32⟩
  | 88 => ⟨S63, .f32⟩
  | 89 => ⟨S63, .f32⟩
  | 90 => ⟨S63, .f32⟩
  | 91 => ⟨S1, .f32⟩
  | 92 => ⟨S64, .f32⟩
  | 93 => ⟨S10000x16x16x1, .f32⟩
  | 94 => ⟨S1x1x1x64, .f32⟩
  | 95 => ⟨S10000x16x16x64, .f32⟩
  | 96 => ⟨S10000x16x16x64, .f32⟩
  | 97 => ⟨S10000x16x16x64, .f32⟩
  | 98 => ⟨S_, .f32⟩
  | 99 => ⟨S10000x16x16x64, .f32⟩
  | 100 => ⟨S10000x16x16x64, .f32⟩
  | 101 => ⟨S10000x16x16x64, .f32⟩
  | 102 => ⟨S10000x16x16x64, .f32⟩
  | 103 => ⟨S10000x16x16x64, .f32⟩
  | 104 => ⟨S10000x16x16x4, .f32⟩
  | 105 => ⟨S1x1x1x4, .f32⟩
  | 106 => ⟨S10000x16x16x4, .f32⟩
  | 107 => ⟨S10000x16x16x4, .f32⟩
  | 108 => ⟨S10000x16x16x4, .f32⟩
  | 109 => ⟨S10000x16x256, .f32⟩
  | 110 => ⟨S1x1x256, .f32⟩
  | 111 => ⟨S10000x16x256, .f32⟩
  | 112 => ⟨S10000x16x256, .f32⟩
  | 113 => ⟨S10000x16x128, .f32⟩
  | 114 => ⟨S10000x16x4x32, .f32⟩
  | 115 => ⟨S10000x16x128, .f32⟩
  | 116 => ⟨S10000x16x32x4, .f32⟩
  | 117 => ⟨S10000x4x16x16, .f32⟩
  | 118 => ⟨S10000x16x16x4, .f32⟩
  | 119 => ⟨S_, .f32⟩
  | 120 => ⟨S10000x16x16x4, .f32⟩
  | 121 => ⟨S10000x16x16x4, .f32⟩
  | 122 => ⟨S10000x16x16x4, .f32⟩
  | 123 => ⟨S10000x16x1, .i1⟩
  | 124 => ⟨S10000x1x16, .i1⟩
  | 125 => ⟨S10000x16x16, .i1⟩
  | 126 => ⟨S10000x16x16, .i1⟩
  | 127 => ⟨S10000x16x16, .i1⟩
  | _ => ⟨S10000x128, .f32⟩

abbrev hbmTy0_1 (i : Nat) : BufTy := match i % 128 with
  | 0 => ⟨S10000x16x16, .i1⟩
  | 1 => ⟨S10000x16x16x1, .i1⟩
  | 2 => ⟨S10000x16x16x1, .f32⟩
  | 3 => ⟨S_, .f32⟩
  | 4 => ⟨S10000x16x16x1, .f32⟩
  | 5 => ⟨S10000x16x16x1, .f32⟩
  | 6 => ⟨S10000x16x16x4, .f32⟩
  | 7 => ⟨S10000x16x16x4, .f32⟩
  | 8 => ⟨S_, .f32⟩
  | 9 => ⟨S10000x16x4, .f32⟩
  | 10 => ⟨S_, .f32⟩
  | 11 => ⟨S10000x16x4, .f32⟩
  | 12 => ⟨S10000x16x4, .f32⟩
  | 13 => ⟨S10000x16x1x4, .f32⟩
  | 14 => ⟨S10000x16x16x4, .f32⟩
  | 15 => ⟨S10000x16x16x4, .f32⟩
  | 16 => ⟨S10000x16x16x4, .f32⟩
  | 17 => ⟨S_, .f32⟩
  | 18 => ⟨S10000x16x4, .f32⟩
  | 19 => ⟨S10000x16x1x4, .f32⟩
  | 20 => ⟨S10000x16x16x4, .f32⟩
  | 21 => ⟨S10000x16x16x4, .f32⟩
  | 22 => ⟨S10000x16x128, .f32⟩
  | 23 => ⟨S1x1x128, .f32⟩
  | 24 => ⟨S10000x16x128, .f32⟩
  | 25 => ⟨S10000x16x128, .f32⟩
  | 26 => ⟨S10000x16x4x32, .f32⟩
  | 27 => ⟨S10000x16x1x4x32, .f32⟩
  | 28 => ⟨S10000x16x16x4x1, .f32⟩
  | 29 => ⟨S10000x16x16x4x32, .f32⟩
  | 30 => ⟨S10000x16x16x4x32, .f32⟩
  | 31 => ⟨S10000x16x16x4x32, .f32⟩
  | 32 => ⟨S10000x16x16x1x1, .i1⟩
  | 33 => ⟨S10000x16x16x1x1, .f32⟩
  | 34 => ⟨S10000x16x16x4x32, .f32⟩
  | 35 => ⟨S10000x16x16x4x32, .f32⟩
  | 36 => ⟨S_, .f32⟩
  | 37 => ⟨S10000x16x4x32, .f32⟩
  | 38 => ⟨S10000x16x128, .f32⟩
  | 39 => ⟨S10000x16x128, .f32⟩
  | 40 => ⟨S1x1x128, .f32⟩
  | 41 => ⟨S10000x16x128, .f32⟩
  | 42 => ⟨S10000x16x128, .f32⟩
  | 43 => ⟨S160000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_c_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_call0_v0 : Ref sig .tc := ⟨.hbm, 66, rfl⟩
abbrev main_call0_cst : Ref sig .tc := ⟨.hbm, 67, rfl⟩
abbrev main_call0_v1 : Ref sig .tc := ⟨.hbm, 68, rfl⟩
abbrev main_v44 : Ref sig .tc := ⟨.hbm, 69, rfl⟩
abbrev main_cst_6 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_cst : Ref sig .tc := ⟨.hbm, 75, rfl⟩
abbrev main_call1_v3 : Ref sig .tc := ⟨.hbm, 76, rfl⟩
abbrev main_call1_v4 : Ref sig .tc := ⟨.hbm, 77, rfl⟩
abbrev main_call1_cst_0 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_v15 : Ref sig .tc := ⟨.hbm, 90, rfl⟩
abbrev main_call1_v16 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_8 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_9 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_10 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_11 : Ref sig .tc := ⟨.hbm, 136, rfl⟩
abbrev main_v86 : Ref sig .tc := ⟨.hbm, 137, rfl⟩
abbrev main_cst_12 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_13 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_14 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩

abbrev nD : Nat := 1
abbrev τ : Topo := Topo.v7x

variable {F : FTy → Type} [FloatOps F]
-- ==== Proof.Reals.lean ====
/-
  Arithmetic on the extended reals that the value claim needs.

  The idealized operations work on the reals with the two infinities added. Here it is shown which of the operations
  the reference uses give a real number: sums, products, differences and quotients of reals, the largest of finitely
  many reals, and the exponential and the logistic function in the places the reference uses them. Then come the two
  facts that carry the claim: weights that are not negative and sum to one leave a constant as it is, also an infinite
  one; and a product with two matrices in a row may be regrouped when the matrices and the vector are real, whatever
  the two added biases are.
-/
module

public import Idealize.ShloMosaic.PureOps.Ideal.Laws
public import Idealize.ShloMosaic.Lib.IdealHost

@[expose] public section

noncomputable section

namespace Cert.Reals

open Idealize.ShloMosaic
open scoped BigOperators

/-- An extended real that is a real number: neither of the two infinities. -/
def IsReal (x : EReal) : Prop := ∃ r : ℝ, x = (r : EReal)

/-! ## Which operations give a real -/

/-- A number that lies strictly between the two infinities is real. -/
theorem isReal_of_ne {x : EReal} (hb : x ≠ ⊥) (ht : x ≠ ⊤) : IsReal x :=
  ⟨x.toReal, (EReal.coe_toReal ht hb).symm⟩

/-- A number whose absolute value is below the upper infinity is real. -/
theorem isReal_of_abs_lt {x : EReal} (h : max x (-x) < ⊤) : IsReal x := by
  refine isReal_of_ne (fun e => ?_) (fun e => ?_)
  · subst e; simp at h
  · subst e; simp at h

/-- Zero is real. -/
theorem isReal_zero : IsReal 0 := ⟨0, rfl⟩

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is real. -/
theorem isReal_sum {ι : Type} (S : Finset ι) (f : ι → EReal) (h : ∀ i, IsReal (f i)) : IsReal (∑ i ∈ S, f i) := by
  classical
  induction S using Finset.induction_on with
  | empty => simpa using isReal_zero
  | insert a S ha ih => rw [Finset.sum_insert ha]; exact (h a).add ih

/-- The quotient of a real by a real that is not zero is real. -/
theorem IsReal.div {x : EReal} (hx : IsReal x) {b : ℝ} (hb : b ≠ 0) : IsReal (Ideal.div x (b : EReal)) := by
  rw [Ideal.div_coe hb]
  exact hx.mul ⟨1 / b, rfl⟩

/-- The quotient of two reals, the second not zero, is the quotient of real arithmetic. -/
theorem div_coe_coe (a : ℝ) {b : ℝ} (hb : b ≠ 0) : Ideal.div (a : EReal) (b : EReal) = ((a / b : ℝ) : EReal) := by
  rw [Ideal.div_coe hb, ← EReal.coe_mul, mul_one_div]

/-- The largest of the lower infinity and the reals of a nonempty finite family is real. -/
theorem isReal_fold_max {ι : Type} (S : Finset ι) (hS : S.Nonempty) (f : ι → EReal) (h : ∀ i, IsReal (f i)) :
    IsReal (S.fold max ⊥ f) := by
  classical
  induction hS using Finset.Nonempty.cons_induction with
  | singleton a => simpa using h a
  | cons a S ha _ ih =>
    rw [Finset.fold_cons]
    rcases max_choice (f a) (S.fold max ⊥ f) with e | e <;> rw [e]
    · exact h a
    · exact ih

/-- The exponential is nowhere negative. -/
theorem exp_nonneg (x : EReal) : 0 ≤ Ideal.exp x := by
  induction x with
  | bot => simp
  | top => simp
  | coe r => rw [Ideal.exp_coe]; exact_mod_cast (Real.exp_pos r).le

/-- The exponential of minus a square is real, whatever was squared: a square is not negative, so the exponent is at
    most zero, where the exponential does not exceed one. -/
theorem isReal_exp_neg_sq (z : EReal) : IsReal (Ideal.exp (-(z * z))) := by
  induction z with
  | bot => simpa using isReal_zero
  | top => simpa using isReal_zero
  | coe r => exact ⟨Real.exp (-(r * r)), by rw [← EReal.coe_mul, ← EReal.coe_neg, Ideal.exp_coe]⟩

/-- One over one plus the exponential is real, whatever the exponent: the divisor is at least one, and at an infinite
    divisor the quotient is zero. -/
theorem isReal_gate (x : EReal) : IsReal (Ideal.div 1 (1 + Ideal.exp x)) := by
  induction x with
  | bot =>
    refine ⟨1, ?_⟩
    rw [Ideal.exp_bot, add_zero]
    exact (div_coe_coe 1 one_ne_zero).trans (by norm_num)
  | top =>
    refine ⟨0, ?_⟩
    have h1 : (1 : EReal) + ⊤ = ⊤ := by rw [← EReal.coe_one]; exact EReal.coe_add_top 1
    rw [Ideal.exp_top, h1]
    simp [Ideal.div]
  | coe r =>
    have h : (1 : EReal) + Ideal.exp (r : EReal) = ((1 + Real.exp r : ℝ) : EReal) := by
      rw [Ideal.exp_coe, EReal.coe_add, EReal.coe_one]
    rw [h]
    exact IsReal.div ⟨1, rfl⟩ (by positivity)

/-! ## Weights that sum to one -/

/-- Multiplying a number, infinite or not, by weights that are not negative and adding up is multiplying it by the
    weights' sum. -/
theorem sum_const_mul {ι : Type} (S : Finset ι) (v : EReal) (p : ι → EReal) (hp : ∀ i, 0 ≤ p i) :
    ∑ i ∈ S, v * p i = v * ∑ i ∈ S, p i := by
  classical
  induction S using Finset.induction_on with
  | empty => simp
  | insert a S ha ih =>
    rw [Finset.sum_insert ha, Finset.sum_insert ha, ih,
      EReal.left_distrib_of_nonneg (hp a) (Finset.sum_nonneg fun i _ => hp i)]

/-- A real sum read as an extended real is the sum of the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weights of a softmax over real scores: each is not negative and together they are one. -/
theorem softmax_weights {n : ℕ} [NeZero n] (t : Fin n → EReal) (ht : ∀ b, IsReal (t b)) :
    (∀ b, 0 ≤ Ideal.div (Ideal.exp (t b)) (0 + ∑ a, Ideal.exp (t a)))
      ∧ ∑ b, Ideal.div (Ideal.exp (t b)) (0 + ∑ a, Ideal.exp (t a)) = 1 := by
  choose r hr using ht
  have hpos : 0 < ∑ a, Real.exp (r a) :=
    Finset.sum_pos (fun a _ => Real.exp_pos _) ⟨⟨0, Nat.pos_of_ne_zero (NeZero.ne n)⟩, Finset.mem_univ _⟩
  have hden : (0 : EReal) + ∑ a, Ideal.exp (t a) = ((∑ a, Real.exp (r a) : ℝ) : EReal) := by
    rw [zero_add, coe_sum]
    exact Finset.sum_congr rfl fun a _ => by rw [hr a, Ideal.exp_coe]
  have hw : ∀ b, Ideal.div (Ideal.exp (t b)) (0 + ∑ a, Ideal.exp (t a))
      = ((Real.exp (r b) / ∑ a, Real.exp (r a) : ℝ) : EReal) := fun b => by
    rw [hden, hr b, Ideal.exp_coe, div_coe_coe _ hpos.ne']
  refine ⟨fun b => ?_, ?_⟩
  · rw [hw b]; exact_mod_cast div_nonneg (Real.exp_pos _).le hpos.le
  · rw [Finset.sum_congr rfl fun b _ => hw b, ← coe_sum, ← Finset.sum_div, div_self hpos.ne']
    rfl

/-- A weighted sum of a constant under softmax weights is the constant, infinite or not. -/
theorem softmax_const {n : ℕ} [NeZero n] (t : Fin n → EReal) (ht : ∀ b, IsReal (t b)) (v : EReal) :
    ∑ b, v * Ideal.div (Ideal.exp (t b)) (0 + ∑ a, Ideal.exp (t a)) = v := by
  obtain ⟨h0, h1⟩ := softmax_weights t ht
  rw [sum_const_mul _ _ _ h0, h1, mul_one]

/-! ## Regrouping the two matrix products -/

/-- A real factor distributes over the sum of a real and any number, infinite or not. -/
theorem add_mul_real {a w : EReal} (ha : IsReal a) (hw : IsReal w) (b : EReal) : (a + b) * w = a * w + b * w := by
  obtain ⟨r, rfl⟩ := ha; obtain ⟨s, rfl⟩ := hw
  induction b with
  | coe q => rw [← EReal.coe_add, ← EReal.coe_mul, ← EReal.coe_mul, ← EReal.coe_mul, ← EReal.coe_add, add_mul]
  | bot =>
    rw [EReal.add_bot]
    rcases lt_trichotomy s 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy s 0 with h | h | h
    · rw [EReal.top_mul_coe_of_neg h, EReal.add_bot]
    · subst h; simp
    · rw [EReal.top_mul_coe_of_pos h, ← EReal.coe_mul, EReal.coe_add_top]

/-- The product of a real row with two real matrices in a row may be taken from either end. -/
theorem sum_sum_assoc {n p : ℕ} (x : Fin n → EReal) (A : Fin n → Fin p → EReal) (w : Fin p → EReal)
    (hx : ∀ i, IsReal (x i)) (hA : ∀ i j, IsReal (A i j)) (hw : ∀ j, IsReal (w j)) :
    ∑ j, (∑ i, x i * A i j) * w j = ∑ i, x i * ∑ j, A i j * w j := by
  choose x' hx' using hx
  choose A' hA' using hA
  choose w' hw' using hw
  have hl : ∑ j, (∑ i, x i * A i j) * w j = ((∑ j, (∑ i, x' i * A' i j) * w' j : ℝ) : EReal) := by
    simp only [hx', hA', hw', coe_sum, EReal.coe_mul]
  have hr : ∑ i, x i * ∑ j, A i j * w j = ((∑ i, x' i * ∑ j, A' i j * w' j : ℝ) : EReal) := by
    simp only [hx', hA', hw', coe_sum, EReal.coe_mul]
  rw [hl, hr]
  congr 1
  simp only [Finset.sum_mul, Finset.mul_sum]
  rw [Finset.sum_comm]
  exact Finset.sum_congr rfl fun i _ => Finset.sum_congr rfl fun j _ => mul_assoc _ _ _

/-- The equation of the claim: a real row through a real matrix, a bias added, through a second real matrix, a second
    bias added, is the row through the product of the two matrices, plus the first bias through the second matrix plus
    the second bias. The two biases may be infinite. -/
theorem two_layers {n p : ℕ} (x : Fin n → EReal) (A : Fin n → Fin p → EReal) (b w : Fin p → EReal) (d : EReal)
    (hx : ∀ i, IsReal (x i)) (hA : ∀ i j, IsReal (A i j)) (hw : ∀ j, IsReal (w j)) :
    ∑ j, (∑ i, x i * A i j + b j) * w j + d = ∑ i, x i * (∑ j, A i j * w j) + (∑ j, b j * w j + d) := by
  have e : ∀ j, (∑ i, x i * A i j + b j) * w j = (∑ i, x i * A i j) * w j + b j * w j := fun j =>
    add_mul_real (isReal_sum _ _ fun i => (hx i).mul (hA i j)) (hw j) (b j)
  rw [Finset.sum_congr rfl fun j _ => e j, Finset.sum_add_distrib, sum_sum_assoc x A w hx hA hw, add_assoc]

end Cert.Reals

end
-- ==== Proof.Finite.lean ====
/-
  What the precondition says.

  The precondition compares the absolute value of every element of seven arrays with infinity. Where it holds, every
  element of the seven arrays is a real number.
-/
module

public import proofs.«01_k».proof.Defs
public import proofs.«01_k».proof.Proof.Reals
public import Idealize.ShloMosaic.PureOps.Ideal.Laws

@[expose] public section

set_option maxRecDepth 16384

noncomputable section

namespace Cert.Finite

open Idealize.ShloMosaic Idealize.ShloMosaic.TcCoe Idealize.SL.Sem Cert.Reals

/-- The word the absolute values are compared with reads as infinity. -/
theorem infinity : Ideal.ofBits .f32 0x7F800000#32 = (⊤ : EReal) := by
  simp [Ideal.ofBits, Ideal.ieee, -EReal.coe_mul]

/-- An array all of whose absolute values compare below infinity holds real numbers. -/
theorem real_of_mask (s : Shape) (x : FVec Ideal s .f32) (hb : (⟨0, ![]⟩ : Shape).BroadcastsInDim s (![] : Fin 0 → Fin s.rank))
    (h : cmpf .olt (Host.absf x) (broadcastInDim s ![] hb (constant (F := Ideal) (⟨0, ![]⟩ : Shape) .f32 0x7F800000#32)) = fun _ => 1#1)
    (i : s.Idx) : IsReal (x i : EReal) := by
  have hi : BitVec.ofBool (decide (max (x i : EReal) (-(x i : EReal)) < Ideal.ofBits .f32 0x7F800000#32)) = 1#1 := congrFun h i
  rw [infinity] at hi
  refine isReal_of_abs_lt ?_
  by_contra hn
  rw [decide_eq_false hn] at hi
  exact absurd hi (by decide)

/-- Under the precondition the edge features, the weights and biases of the score and of the attention weights, and the two
    matrices of the value path hold real numbers. -/
theorem arguments_real [Cert.Pre_finite_inputs.Facts]
    (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    (∀ i, IsReal (m ((c.tc : Thread Cert.KernelIdeal.nD Cert.KernelIdeal.τ).loc Cert.KernelIdeal.main_arg2) i : EReal))
    ∧ (∀ i, IsReal (m ((c.tc : Thread Cert.KernelIdeal.nD Cert.KernelIdeal.τ).loc Cert.KernelIdeal.main_arg6) i : EReal))
    ∧ (∀ i, IsReal (m ((c.tc : Thread Cert.KernelIdeal.nD Cert.KernelIdeal.τ).loc Cert.KernelIdeal.main_arg7) i : EReal))
    ∧ (∀ i, IsReal (m ((c.tc : Thread Cert.KernelIdeal.nD Cert.KernelIdeal.τ).loc Cert.KernelIdeal.main_arg8) i : EReal))
    ∧ (∀ i, IsReal (m ((c.tc : Thread Cert.KernelIdeal.nD Cert.KernelIdeal.τ).loc Cert.KernelIdeal.main_arg9) i : EReal))
    ∧ (∀ i, IsReal (m ((c.tc : Thread Cert.KernelIdeal.nD Cert.KernelIdeal.τ).loc Cert.KernelIdeal.main_arg10) i : EReal))
    ∧ (∀ i, IsReal (m ((c.tc : Thread Cert.KernelIdeal.nD Cert.KernelIdeal.τ).loc Cert.KernelIdeal.main_arg12) i : EReal)) := by
  obtain ⟨e2, e6, e7, e8, e9, e10, e12⟩ := h c
  exact ⟨real_of_mask Cert.KernelIdeal.S160000x128 _ Cert.Pre_finite_inputs.Facts.bcast_S_S160000x128 e2,
    real_of_mask _ _ Cert.Pre_finite_inputs.Facts.bcast_S_S64x4 e6,
    real_of_mask _ _ Cert.Pre_finite_inputs.Facts.bcast_S_S4 e7,
    real_of_mask _ _ Cert.Pre_finite_inputs.Facts.bcast_S_S128x256 e8,
    real_of_mask _ _ Cert.Pre_finite_inputs.Facts.bcast_S_S256 e9,
    real_of_mask _ _ Cert.Pre_finite_inputs.Facts.bcast_S_S128x128 e10,
    real_of_mask _ _ Cert.Pre_finite_inputs.Facts.bcast_S_S128x128 e12⟩

end Cert.Finite

end
-- ==== Proof.KernelBlock.lean ====
/-
  What one grid point computes.

  A point multiplies the two 128 by 128 weight matrices, carries the value bias through the output matrix and adds the
  output bias, and applies the combined matrix and the combined bias to its 32000 rows. Here that is read at an index:
  three products as sums over the contracted coordinate, and the one bias row laid along every row.
-/
module

public import proofs.«01_k».proof.Proof.Gen.KernelIdeal.Value
public import Idealize.ShloMosaic.Lib.ValueIdx
public import Idealize.ShloMosaic.PureOps.Ideal.Laws

@[expose] public section

set_option maxRecDepth 16384

noncomputable section

namespace Cert.KernelIdeal.Rows

open Cert.KernelIdeal Cert.KernelIdeal.Gen
open Idealize.ShloMosaic Idealize.ShloMosaic.TcCoe Idealize.SL.Sem
open Idealize.ShloMosaic.ValueIdx

/-- A matrix product into a zero accumulator, at row `p` and column `q`: the sum over the contracted coordinate. -/
theorem product_apply (M K N : Nat) (l : FVec Ideal (⟨2, ![M, K]⟩ : Shape) .f32) (r : FVec Ideal (⟨2, ![K, N]⟩ : Shape) .f32)
    (p : Fin M) (q : Fin N) :
    (matmul (F := Ideal) (DotDims.plain M K N) none l r (constant (⟨2, ![M, N]⟩ : Shape) .f32 0x00000000#32) (ix2 p q) : EReal)
      = ∑ k : Fin K, (l (ix2 p k) : EReal) * r (ix2 k q) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => match a with
      | ⟨0, _⟩ => rfl
      | ⟨1, _⟩ => Fin.ext (((DotDims.plain M K N).lhsIdx_val_of_single rfl _ _).trans hk)
  have er : (DotDims.plain M K N).rhsIdx (ix2 p q) ((contrEquiv1 (DotDims.plain M K N) K rfl rfl).symm k) = ix2 k q :=
    funext fun a => match a with
      | ⟨0, _⟩ => Fin.ext (((DotDims.plain M K N).rhsIdx_val_of_single rfl _ _).trans hk)
      | ⟨1, _⟩ => rfl
  rw [el, er]

/-- One bias row laid along every row of a block reads the bias at the column. -/
theorem bias_apply (b : FVec Ideal S1x128 .f32) (p : Fin 32000) (q : Fin 128) :
    broadcastTo S32000x128 b broadcasts_S1x128_S32000x128 (ix2 p q) = b (ix2 0 q) :=
  broadcastTo_apply b broadcasts_S1x128_S32000x128 (ix2 p q) (ix2 0 q) (fun a => match a with
    | ⟨0, _⟩ => rfl
    | ⟨1, _⟩ => rfl)

/-- The block a point stores, at row `p` and column `q`: the row through the product of the two matrices, plus the value
    bias through the output matrix, plus the output bias. -/
theorem stored_apply (wv wo : Vec Ideal S128x128 .f32) (bv bo : Vec Ideal S1x128 .f32) (x : Vec Ideal S32000x128 .f32)
    (p : Fin 32000) (q : Fin 128) :
    (k0_pay1 wv wo bv wo bo x (ix2 p q) : EReal)
      = (∑ l : Fin 128, (x (ix2 p l) : EReal) * ∑ j : Fin 128, (wv (ix2 l j) : EReal) * wo (ix2 j q))
        + ((∑ j : Fin 128, (bv (ix2 0 j) : EReal) * wo (ix2 j q)) + bo (ix2 0 q)) := by
  have hw : ∀ l : Fin 128, (matmul (F := Ideal) (φ₁ := .f32) (φ₂ := .f32) dot_S128x128_S128x128_S128x128_1_0_0_1_n_n none wv wo (constant S128x128 .f32 0x00000000#32) (ix2 l q) : EReal)
      = ∑ j : Fin 128, (wv (ix2 l j) : EReal) * wo (ix2 j q) := fun l => product_apply 128 128 128 wv wo l q
  have hb : (matmul (F := Ideal) (φ₁ := .f32) (φ₂ := .f32) dot_S1x128_S128x128_S1x128_1_0_0_1_n_n none bv wo (constant S1x128 .f32 0x00000000#32) (ix2 0 q) : EReal)
      = ∑ j : Fin 128, (bv (ix2 0 j) : EReal) * wo (ix2 j q) := product_apply 1 128 128 bv wo 0 q
  have hx := product_apply 32000 128 128 x
    (matmul (F := Ideal) (φ₁ := .f32) (φ₂ := .f32) dot_S128x128_S128x128_S128x128_1_0_0_1_n_n none wv wo (constant S128x128 .f32 0x00000000#32)) p q
  unfold k0_pay1
  rw [shapeCast_self, shapeCast_self, addf_apply, bias_apply, addf_apply]
  exact congrArg₂ (fun s t : EReal => s + t)
    (hx.trans (Finset.sum_congr rfl fun l _ => congrArg (fun s : EReal => (x (ix2 p l) : EReal) * s) (hw l)))
    (congrArg (fun s : EReal => s + bo (ix2 0 q)) hb)

end Cert.KernelIdeal.Rows

end
-- ==== Proof.KernelValue.lean ====
/-
  What the result array holds after the run.

  The five points' blocks are the rows 0-31999, 32000-63999 and so on of the edge array and of the result, and every
  point sees the whole of the two matrices and of the two bias rows. So the result holds, row by row, what one point
  computes of its rows.
-/
module

public import proofs.«01_k».proof.Proof.KernelBlock

@[expose] public section

set_option maxRecDepth 16384

noncomputable section

namespace Cert.KernelIdeal.Rows

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The combined affine map of every row, index by index: the row through the product of the two matrices, plus the value
    bias through the output matrix, plus the output bias. -/
def affine (x : Vec Ideal S160000x128 .f32) (wv : Vec Ideal S128x128 .f32) (bv : Vec Ideal S128 .f32)
    (wo : Vec Ideal S128x128 .f32) (bo : Vec Ideal S128 .f32) : Vec Ideal S160000x128 .f32 := fun i =>
  ((∑ l : Fin 128, (x (ix2 (i 0) l) : EReal) * ∑ j : Fin 128, (wv (ix2 l j) : EReal) * wo (ix2 j (i 1)))
    + ((∑ j : Fin 128, (bv (ix1 j) : EReal) * wo (ix2 j (i 1))) + bo (ix1 (i 1))) : EReal)

/-- The combined map of device `c`'s argument arrays. -/
def combined (c : Dev nD) : Buf (Elt Ideal) ((c : Thread nD τ).loc main_v2) :=
  affine (m ((c : Thread nD τ).loc main_arg2)) (m ((c : Thread nD τ).loc main_arg10)) (m ((c : Thread nD τ).loc main_arg11))
    (m ((c : Thread nD τ).loc main_arg12)) (m ((c : Thread nD τ).loc main_arg13))

/-- The value bias as the region finds it: the argument, as one row. -/
theorem V_bias_v (c : Dev nD) : V m c main_v0 = shapeCast S1x128 (m ((c : Thread nD τ).loc main_arg11)) shapeCasts_S128_S1x128 := by
  unfold_abbrev_sides
  after_results
  rfl

/-- The output bias as the region finds it: the argument, as one row. -/
theorem V_bias_o (c : Dev nD) : V m c main_v1 = shapeCast S1x128 (m ((c : Thread nD τ).loc main_arg13)) shapeCasts_S128_S1x128 := by
  unfold_abbrev_sides
  after_results
  rfl

/-- Where each window's block starts at point `t`: the edge and result windows at block `t`, the others at the origin. -/
theorem starts : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0
    ∧ win0_5.index t 0 = t.val ∧ win0_5.index t 1 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0
    ∧ win0_5.index t 0 = t.val ∧ win0_5.index t 1 = 0)

/-- Row `p` of block `t` of the edge array. -/
theorem row_lt (t : Fin cfg0.N) (p : Fin 32000) : t.val * 32000 + p.val < 160000 := by
  have hN : cfg0.N = 5 := N_0
  have := t.isLt
  have := p.isLt
  omega

/-- Point `t`'s edge block at row `p` is the edge array at row `32000 t + p`. -/
theorem edges_apply (c : Dev nD) (t : Fin cfg0.N) (p : Fin 32000) (l : Fin 128) :
    iblk m c 0 t (ix2 p l) = m ((c : Thread nD τ).loc main_arg2) (ix2 ⟨t.val * 32000 + p.val, row_lt t p⟩ l) := by
  obtain ⟨h0, h1, -⟩ := starts t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 32000 + 1 * p.val = t.val * 32000 + p.val; rw [h0]; omega
  | ⟨1, _⟩ => show win0_0.index t 1 * 128 + 1 * l.val = l.val; rw [h1]; omega

/-- Every point's first matrix is the value matrix. -/
theorem value_matrix_apply (c : Dev nD) (t : Fin cfg0.N) (p q : Fin 128) :
    iblk m c 1 t (ix2 p q) = m ((c : Thread nD τ).loc main_arg10) (ix2 p q) := by
  obtain ⟨-, -, h0, h1, -⟩ := starts t
  unfold iblk
  rw [View.read_apply]
  show V m c main_arg10 _ = _
  rw [V_main_arg10]
  refine congrArg (m ((c : Thread nD τ).loc main_arg10)) (funext fun a => Fin.ext ?_)
  match a with
  | ⟨0, _⟩ => show win0_1.index t 0 * 128 + 1 * p.val = p.val; rw [h0]; omega
  | ⟨1, _⟩ => show win0_1.index t 1 * 128 + 1 * q.val = q.val; rw [h1]; omega

/-- Every point's second matrix is the output matrix. -/
theorem output_matrix_apply (c : Dev nD) (t : Fin cfg0.N) (p q : Fin 128) :
    iblk m c 3 t (ix2 p q) = m ((c : Thread nD τ).loc main_arg12) (ix2 p q) := by
  obtain ⟨-, -, -, -, -, -, h0, h1, -⟩ := starts t
  unfold iblk
  rw [View.read_apply]
  show V m c main_arg12 _ = _
  rw [V_main_arg12]
  refine congrArg (m ((c : Thread nD τ).loc main_arg12)) (funext fun a => Fin.ext ?_)
  match a with
  | ⟨0, _⟩ => show win0_3.index t 0 * 128 + 1 * p.val = p.val; rw [h0]; omega
  | ⟨1, _⟩ => show win0_3.index t 1 * 128 + 1 * q.val = q.val; rw [h1]; omega

/-- A vector of 128 read as one row, at column `q`. -/
theorem as_row_apply (b : Vec Ideal S128 .f32) (i : S1x128.Idx) (q : Fin 128) (hi : (i 1).val = q.val) :
    shapeCast S1x128 b shapeCasts_S128_S1x128 i = b (ix1 q) :=
  (shapeCast_addUnit_apply ![128] b shapeCasts_S128_S1x128 i).trans
    (congrArg b (funext fun a => match a with | ⟨0, _⟩ => Fin.ext hi))

/-- Every point's first bias row is the value bias. -/
theorem value_bias_apply (c : Dev nD) (t : Fin cfg0.N) (q : Fin 128) :
    iblk m c 2 t (ix2 0 q) = m ((c : Thread nD τ).loc main_arg11) (ix1 q) := by
  obtain ⟨-, -, -, -, -, h1, -⟩ := starts t
  unfold iblk
  rw [View.read_apply]
  show V m c main_v0 _ = _
  rw [V_bias_v]
  refine as_row_apply _ _ q ?_
  show win0_2.index t 1 * 128 + 1 * q.val = q.val
  rw [h1]; omega

/-- Every point's second bias row is the output bias. -/
theorem output_bias_apply (c : Dev nD) (t : Fin cfg0.N) (q : Fin 128) :
    iblk m c 4 t (ix2 0 q) = m ((c : Thread nD τ).loc main_arg13) (ix1 q) := by
  obtain ⟨-, -, -, -, -, -, -, -, -, h1, -⟩ := starts t
  unfold iblk
  rw [View.read_apply]
  show V m c main_v1 _ = _
  rw [V_bias_o]
  refine as_row_apply _ _ q ?_
  show win0_4.index t 1 * 128 + 1 * q.val = q.val
  rw [h1]; omega

/-- The offset every access of the body is made at. -/
theorem origin : (![0, 0] : Fin 2 → Nat) = fun _ => 0 := funext (Fin.forall_fin_two.mpr ⟨rfl, rfl⟩)

/-- What point `t` writes back is block `t` of the combined map. -/
theorem written_back (c : Dev nD) (t : Fin cfg0.N) :
    (dats m 0 c).flushed 5 t = (win0_5.blk t).view.read (Elt Ideal) (combined m c) := by
  show (cfg0.win 5).cut (grid0.coords t) ((dats m 0 c).after 5 t) = _
  rw [after0_5]
  unfold out0_5
  rw [View.canon_unit_zero origin, View.ld_unit_zero origin, View.ld_unit_zero origin, View.ld_unit_zero origin,
    View.ld_unit_zero origin, View.ld_unit_zero origin]
  funext i
  obtain ⟨p, q, rfl⟩ : ∃ (p : Fin 32000) (q : Fin 128), i = ix2 p q := ⟨i 0, i 1, eq_ix2 i⟩
  obtain ⟨-, -, -, -, -, -, -, -, -, -, h0, h1⟩ := starts t
  rw [View.read_apply]
  have e : (win0_5.blk t).view.emb (ix2 p q) = ix2 (⟨t.val * 32000 + p.val, row_lt t p⟩ : Fin 160000) q :=
    funext fun a => Fin.ext (match a with
      | ⟨0, _⟩ => by show win0_5.index t 0 * 32000 + 1 * p.val = t.val * 32000 + p.val; rw [h0]; omega
      | ⟨1, _⟩ => by show win0_5.index t 1 * 128 + 1 * q.val = q.val; rw [h1]; omega)
  rw [e]
  show k0_pay1 (iblk m c 1 t) (iblk m c 3 t) (iblk m c 2 t) (iblk m c 3 t) (iblk m c 4 t) (iblk m c 0 t) (ix2 p q) = _
  refine (stored_apply (iblk m c 1 t) (iblk m c 3 t) (iblk m c 2 t) (iblk m c 4 t) (iblk m c 0 t) p q).trans ?_
  show _ = combined m c (ix2 (⟨t.val * 32000 + p.val, row_lt t p⟩ : Fin 160000) q)
  unfold combined affine
  simp only [edges_apply, value_matrix_apply, output_matrix_apply, value_bias_apply, output_bias_apply]

/-- An index of the result is in point `t`'s block iff its row is one of the block's 32000. -/
theorem mem_block (t : Fin cfg0.N) (i : S160000x128.Idx) :
    i ∈ ((cfg0.win 5).blk t).view.set ↔ t.val * 32000 ≤ (i 0 : Nat) ∧ (i 0 : Nat) < t.val * 32000 + 32000 := by
  show i ∈ ((View.whole main_v2).slice (win0_5.rect t)).set ↔ _
  rw [View.set_slice_whole, Rect.mem_set_unit]
  have h1 : (i 1 : Nat) < 128 := (i 1).isLt
  obtain ⟨-, -, -, -, -, -, -, -, -, -, e0, e1⟩ := starts t
  refine ⟨fun h => ?_, fun h a => ?_⟩
  · have := h 0
    change win0_5.index t 0 * 32000 ≤ (i 0 : Nat) ∧ (i 0 : Nat) < win0_5.index t 0 * 32000 + 32000 at this
    rw [e0] at this
    exact this
  · match a with
    | ⟨0, _⟩ =>
      show win0_5.index t 0 * 32000 ≤ (i 0 : Nat) ∧ (i 0 : Nat) < win0_5.index t 0 * 32000 + 32000
      rw [e0]; exact h
    | ⟨1, _⟩ =>
      show win0_5.index t 1 * 128 ≤ (i 1 : Nat) ∧ (i 1 : Nat) < win0_5.index t 1 * 128 + 128
      rw [e1]; omega

/-- Every row of the result is written: row `r` by point `r / 32000`. -/
theorem every_row (i : S160000x128.Idx) :
    ∃ t : Fin cfg0.N, (cfg0.win 5).flush t = true ∧ i ∈ ((cfg0.win 5).blk t).view.set := by
  have h0 : (i 0 : Nat) < 160000 := (i 0).isLt
  have hN : cfg0.N = 5 := N_0
  refine ⟨⟨(i 0 : Nat) / 32000, by omega⟩, flush0_5 _, ?_⟩
  rw [mem_block]
  dsimp only
  omega

/-- The result array after the run is the combined map. -/
theorem result_eq (c : Dev nD) : (dats m 0 c).arrAt 5 cfg0.N = combined m c :=
  (dats m 0 c).arrAt_eq_of_cover 5 (combined m c) (fun t _ => written_back m c t) every_row

end Cert.KernelIdeal.Rows

end
-- ==== Proof.RefScores.lean ====
/-
  The reference's attention weights.

  Whatever the node features, the positions, the neighbour indices and the gate's weights are, the gate lies between
  zero and one and the radial features are exponentials of minus a square, so both are real numbers. With real edge
  features, real distance weights and real query and key weights the scores are then real, and the softmax over the
  sixteen edges of a node gives weights that are not negative and sum to one. The argument goes through the reference
  one operation at a time.
-/
module

public import proofs.«01_k».proof.Proof.Gen.ReferenceIdeal.Read
public import proofs.«01_k».proof.Proof.Reals
public import Idealize.ShloMosaic.PureOps.Reduce

@[expose] public section

set_option maxRecDepth 16384

noncomputable section

namespace Cert.ReferenceIdeal.Scores

open Cert.ReferenceIdeal Cert.ReferenceIdeal.Gen Cert.ReferenceIdeal.Read Cert.Reals
open Idealize.ShloMosaic Idealize.ShloMosaic.TcCoe Idealize.SL.Sem Idealize.ShloMosaic.StableHlo

/-- The contents of a 32-bit float array of shape `s` at the idealized numbers. -/
abbrev Arr (s : Shape) := (⟨s, .f32⟩ : BufTy).Contents (Elt Ideal)

/-- Every element of the array is a real number. -/
def AllReal {s : Shape} (x : Arr s) : Prop := ∀ i, IsReal (x i)

/-! ## The literals -/

/-- The divisor of the scores (the square root of 128, rounded) is a real that is not zero. -/
theorem ofBits_scale : Ideal.ofBits .f32 0x413504F3#32 = ((11863283 / 1048576 : ℝ) : EReal) := by
  simp [Ideal.ofBits, Ideal.ieee, -EReal.coe_mul]
  norm_num

/-- The mask's penalty is ten thousand. -/
theorem ofBits_penalty : Ideal.ofBits .f32 0x461C4000#32 = ((10000 : ℝ) : EReal) := by
  simp [Ideal.ofBits, Ideal.ieee, -EReal.coe_mul]
  norm_num

/-- The starting value of the maximum is the lower infinity. -/
theorem ofBits_neg_inf : Ideal.ofBits .f32 0xFF800000#32 = ⊥ := by
  simp [Ideal.ofBits, Ideal.ieee]

section Stages

variable (x0 : Arr S10000x128) (x1 : Arr S10000x3) (x2 : Arr S160000x128)
  (x3 : (⟨S2x160000, .i32⟩ : BufTy).Contents (Elt Ideal)) (x4 : Arr S256x4) (x5 : Arr S4) (x6 : Arr S64x4) (x7 : Arr S4)
  (x8 : Arr S128x256) (x9 : Arr S256)

/-! ## The distance term -/

/-- The gate, one over one plus an exponential, is real whatever the node features and the gate's weights are. -/
theorem gate_real : AllReal (val_main_v29 (F := Ideal) x0 x3 x4 x5) := fun i => by
  rw [val_main_v29_apply, val_main_v28_apply, val_main_cst_2_apply, val_main_v27_apply, val_main_v26_apply,
    val_main_cst_apply, val_main_v25_apply]
  simp only [Ideal.hostDivf_def, Ideal.addf_def, Ideal.hostUnary_exp_def, Ideal.ofBits_def, Ideal.ofBits_one_f32]
  exact isReal_gate _

/-- The radial features, exponentials of minus a square, are real whatever the positions are. -/
theorem radial_real : AllReal (val_main_v55 (F := Ideal) x1 x3) := fun i => by
  rw [val_main_v55_apply, val_main_v54_apply, val_main_v53_apply]
  exact isReal_exp_neg_sq _

/-- The distance term before the gate is real when its weights and its bias are. -/
theorem distance_real (h6 : AllReal x6) (h7 : AllReal x7) : AllReal (val_main_v59 (F := Ideal) x1 x3 x6 x7) := fun i => by
  rw [val_main_v59_apply, val_main_v56_apply, val_main_v58_apply, val_main_v57_apply]
  exact (isReal_sum _ _ fun k => (radial_real x1 x3 _).mul (h6 _)).add (h7 _)

/-- The gated distance term is real. -/
theorem gated_real (h6 : AllReal x6) (h7 : AllReal x7) :
    AllReal (val_main_v60 (F := Ideal) x0 x1 x3 x4 x5 x6 x7) := fun i => by
  rw [val_main_v60_apply]
  exact (gate_real x0 x3 x4 x5 i).mul (distance_real x1 x3 x6 x7 h6 h7 i)

/-! ## The query and key term -/

/-- The queries and keys, side by side, are real when the edge features, the weights and the bias are. -/
theorem query_key_real (h2 : AllReal x2) (h8 : AllReal x8) (h9 : AllReal x9) :
    AllReal (val_main_v64 (F := Ideal) x2 x8 x9) := fun i => by
  rw [val_main_v64_apply, val_main_v61_apply, val_main_v63_apply, val_main_v62_apply]
  refine (isReal_sum _ _ fun k => ?_).add (h9 _)
  rw [val_main_v3_apply]
  exact (h2 _).mul (h8 _)

/-- The products of queries with keys are real. -/
theorem product_real (h2 : AllReal x2) (h8 : AllReal x8) (h9 : AllReal x9) :
    AllReal (val_main_v69 (F := Ideal) x2 x8 x9) := fun i => by
  rw [val_main_v69_apply]
  refine isReal_sum _ _ fun k => ?_
  rw [val_main_v68_apply, val_main_v67_apply, val_main_v66_apply, val_main_v65_apply]
  exact (query_key_real x2 x8 x9 h2 h8 h9 _).mul (query_key_real x2 x8 x9 h2 h8 h9 _)

/-- Divided by the scale they still are. -/
theorem scaled_real (h2 : AllReal x2) (h8 : AllReal x8) (h9 : AllReal x9) :
    AllReal (val_main_v72 (F := Ideal) x2 x8 x9) := fun i => by
  rw [val_main_v72_apply, val_main_v70_apply, val_main_v71_apply, val_main_cst_9_apply]
  simp only [Ideal.hostDivf_def, Ideal.ofBits_def, ofBits_scale]
  exact (product_real x2 x8 x9 h2 h8 h9 _).div (by norm_num)

/-! ## The scores and the softmax -/

/-- What the mask subtracts is real. -/
theorem penalty_real : AllReal (val_main_v84 (F := Ideal)) := fun i => by
  rw [val_main_v84_apply, val_main_v83_apply, val_main_v82_apply, val_main_cst_10_apply, val_main_v81_apply]
  simp only [Ideal.mulf_def, Ideal.ofBits_def, ofBits_penalty]
  exact IsReal.mul ⟨_, rfl⟩ ⟨_, rfl⟩

/-- The scores are real. -/
theorem score_real (h2 : AllReal x2) (h6 : AllReal x6) (h7 : AllReal x7) (h8 : AllReal x8) (h9 : AllReal x9) :
    AllReal (val_main_v85 (F := Ideal) x0 x1 x2 x3 x4 x5 x6 x7 x8 x9) := fun i => by
  rw [val_main_v85_apply, val_main_v73_apply]
  exact ((scaled_real x2 x8 x9 h2 h8 h9 i).add (gated_real x0 x1 x3 x4 x5 x6 x7 h6 h7 i)).sub (penalty_real i)

/-- The shape fact of a maximum over the third axis of the scores. -/
theorem reduces_scores : S10000x16x16x4.Reduces [2] S10000x16x4 := by decide

/-- The largest of real scores over the third axis is real. -/
theorem max_real (y : Arr S10000x16x16x4) (hy : AllReal y) (i : S10000x16x4.Idx) :
    IsReal (Host.reduce (FloatOps.maximumf (F := Ideal) (φ := .f32)) y (val_main_cst_11 (F := Ideal))
      reducesTo_S10000x16x16x4_S10000x16x4_d2 h_S_ i) := by
  have e : Host.reduce (FloatOps.maximumf (F := Ideal) (φ := .f32)) y (val_main_cst_11 (F := Ideal))
      reducesTo_S10000x16x16x4_S10000x16x4_d2 h_S_ i
      = (Finset.univ : Finset (Fin 16)).fold max (⊥ : EReal) (fun k => y (reduces_scores.lift i k)) :=
    (Host.reduce_eq_fold_single (α := EReal) max y (val_main_cst_11 (F := Ideal))
      reducesTo_S10000x16x16x4_S10000x16x4_d2 reduces_scores h_S_ i).trans
      (congrArg (fun b : EReal => (Finset.univ : Finset (Fin 16)).fold max b (fun k => y (reduces_scores.lift i k)))
        ofBits_neg_inf)
  rw [e]
  exact isReal_fold_max _ ⟨(⟨0, by decide⟩ : Fin 16), Finset.mem_univ _⟩ _ fun k => hy _

/-- The scores less their largest are real. -/
theorem shifted_real (h2 : AllReal x2) (h6 : AllReal x6) (h7 : AllReal x7) (h8 : AllReal x8) (h9 : AllReal x9) :
    AllReal (val_main_v91 (F := Ideal) x0 x1 x2 x3 x4 x5 x6 x7 x8 x9) := fun i => by
  rw [val_main_v91_apply, val_main_v90_apply, val_main_v89_apply, val_main_v88_apply, val_main_v87_apply,
    val_main_cst_12_apply]
  simp only [Ideal.maximumf_def, Ideal.ofBits_def, ofBits_neg_inf, bot_le, max_eq_right]
  exact (score_real x0 x1 x2 x3 x4 x5 x6 x7 x8 x9 h2 h6 h7 h8 h9 i).sub
    (max_real _ (score_real x0 x1 x2 x3 x4 x5 x6 x7 x8 x9 h2 h6 h7 h8 h9) _)

/-- The sixteen edges of one node and one head: the index of the pair with edge `b`. -/
abbrev pair (n : Fin 10000) (a b : Fin 16) (h : Fin 4) : S10000x16x16x4.Idx := ValueIdx.ix4 n a b h

/-- An attention weight is a softmax weight of the shifted scores over the sixteen edges of the node. -/
theorem weight_eq (n : Fin 10000) (a b : Fin 16) (h : Fin 4) :
    val_main_v96 (F := Ideal) x0 x1 x2 x3 x4 x5 x6 x7 x8 x9 (pair n a b h)
      = Ideal.div (Ideal.exp (val_main_v91 (F := Ideal) x0 x1 x2 x3 x4 x5 x6 x7 x8 x9 (pair n a b h)))
          (0 + ∑ k : Fin 16, Ideal.exp (val_main_v91 (F := Ideal) x0 x1 x2 x3 x4 x5 x6 x7 x8 x9 (pair n a k h))) := by
  have e : ∀ k : Fin 16, idx_main_v93 (idx_main_v94 (idx_main_v95 (pair n a b h))) k = pair n a k h := fun k =>
    funext fun d => match d with
      | ⟨0, _⟩ => rfl
      | ⟨1, _⟩ => rfl
      | ⟨2, _⟩ => rfl
      | ⟨3, _⟩ => rfl
  rw [val_main_v96_apply, val_main_v95_apply, val_main_v94_apply, val_main_v93_apply, val_main_cst_13_apply,
    val_main_v92_apply]
  simp only [e, val_main_v92_apply, Ideal.hostDivf_def, Ideal.hostUnary_exp_def, Ideal.ofBits_def, Ideal.ofBits_zero_f32]

/-- Averaging one value over the sixteen edges with the attention weights gives the value back, infinite or not. -/
theorem average_const (h2 : AllReal x2) (h6 : AllReal x6) (h7 : AllReal x7) (h8 : AllReal x8) (h9 : AllReal x9)
    (n : Fin 10000) (a : Fin 16) (h : Fin 4) (v : EReal) :
    ∑ b : Fin 16, v * val_main_v96 (F := Ideal) x0 x1 x2 x3 x4 x5 x6 x7 x8 x9 (pair n a b h) = v := by
  rw [Finset.sum_congr rfl fun b _ => by rw [weight_eq x0 x1 x2 x3 x4 x5 x6 x7 x8 x9 n a b h]]
  exact softmax_const _ (fun b => shifted_real x0 x1 x2 x3 x4 x5 x6 x7 x8 x9 h2 h6 h7 h8 h9 _) v

end Stages

end Cert.ReferenceIdeal.Scores

end
-- ==== Proof.RefValue.lean ====
/-
  What the reference computes.

  Each node's sixteen edges exchange values through the attention weights, but the value that is averaged for an edge is
  that edge's own: the average runs over the other edge of the pair, on which the value does not depend. As the weights
  of an edge sum to one, the exchange returns the value. What is left of the reference is two affine maps in a row, the
  value projection and the output projection.
-/
module

public import proofs.«01_k».proof.Proof.RefScores

@[expose] public section

set_option maxRecDepth 16384

noncomputable section

namespace Cert.ReferenceIdeal.Scores

open Cert.ReferenceIdeal Cert.ReferenceIdeal.Gen Cert.ReferenceIdeal.Read Cert.Reals
open Idealize.ShloMosaic Idealize.ShloMosaic.TcCoe Idealize.SL.Sem Idealize.ShloMosaic.StableHlo
open Idealize.ShloMosaic.ValueIdx

section Stages

variable (x0 : Arr S10000x128) (x1 : Arr S10000x3) (x2 : Arr S160000x128)
  (x3 : (⟨S2x160000, .i32⟩ : BufTy).Contents (Elt Ideal)) (x4 : Arr S256x4) (x5 : Arr S4) (x6 : Arr S64x4) (x7 : Arr S4)
  (x8 : Arr S128x256) (x9 : Arr S256) (x10 : Arr S128x128) (x11 : Arr S128) (x12 : Arr S128x128) (x13 : Arr S128)

/-- No edge is masked, so the factor the mask multiplies by is one. -/
theorem mask_one (i : S10000x16x16x4x32.Idx) : val_main_v109 (F := Ideal) i = (1 : EReal) := by
  rw [val_main_v109_apply, val_main_v108_apply, val_main_v107_apply, val_main_v78_apply, val_main_v76_apply,
    val_main_v74_apply, val_main_v77_apply, val_main_v75_apply, val_main_v4_apply, val_main_v4_apply, val_main_c_apply]
  show (((IntOp.andi (1#1) (1#1)).toNat : ℝ) : EReal) = 1
  rw [show IntOp.andi (1#1) (1#1) = 1#1 from rfl]
  simp

/-- The exchange between the edges of a node returns each edge's own value. -/
theorem update_eq_value (h2 : AllReal x2) (h6 : AllReal x6) (h7 : AllReal x7) (h8 : AllReal x8) (h9 : AllReal x9)
    (i : S10000x16x4x32.Idx) :
    val_main_v111 (F := Ideal) x0 x1 x2 x3 x4 x5 x6 x7 x8 x9 x10 x11 i = val_main_v101 (F := Ideal) x2 x10 x11 i := by
  have ev : ∀ b : Fin 16, idx_main_v102 (idx_main_v104 (idx_main_v111 i b)) = i := fun b =>
    funext fun d => match d with
      | ⟨0, _⟩ => rfl
      | ⟨1, _⟩ => rfl
      | ⟨2, _⟩ => rfl
      | ⟨3, _⟩ => rfl
  have ew : ∀ b : Fin 16, idx_main_v103 (idx_main_v105 (idx_main_v111 i b)) = pair (i 0) (i 1) b (i 2) := fun b =>
    funext fun d => match d with
      | ⟨0, _⟩ => rfl
      | ⟨1, _⟩ => rfl
      | ⟨2, _⟩ => rfl
      | ⟨3, _⟩ => rfl
  have e : ∀ b : Fin 16, val_main_v110 (F := Ideal) x0 x1 x2 x3 x4 x5 x6 x7 x8 x9 x10 x11 (idx_main_v111 i b)
      = val_main_v101 (F := Ideal) x2 x10 x11 i
        * val_main_v96 (F := Ideal) x0 x1 x2 x3 x4 x5 x6 x7 x8 x9 (pair (i 0) (i 1) b (i 2)) := fun b => by
    rw [val_main_v110_apply, val_main_v106_apply, val_main_v104_apply, val_main_v102_apply, val_main_v105_apply,
      val_main_v103_apply, mask_one, ev b, ew b, Ideal.mulf_def, Ideal.mulf_def]
    exact mul_one _
  rw [val_main_v111_apply, val_main_cst_14_apply, Ideal.ofBits_def, Ideal.ofBits_zero_f32,
    Finset.sum_congr rfl fun b _ => e b]
  exact (zero_add _).trans
    (average_const x0 x1 x2 x3 x4 x5 x6 x7 x8 x9 h2 h6 h7 h8 h9 (i 0) (i 1) (i 2) (val_main_v101 (F := Ideal) x2 x10 x11 i))

/-- Splitting the 128 columns into four heads of 32 and joining them again is no change. -/
theorem heads_joined (J : S10000x16x128.Idx) : idx_main_v101 (idx_main_v112 J) = J := by
  have h0 : (J 0).val < 10000 := (J 0).isLt
  have h1 : (J 1).val < 16 := (J 1).isLt
  have h2 : (J 2).val < 128 := (J 2).isLt
  have e : ((((((J 0).val * 16 + (J 1).val) * 128 + (J 2).val) / 2048) * 16 + (((J 0).val * 16 + (J 1).val) * 128 + (J 2).val) / 128 % 16) * 4 + (((J 0).val * 16 + (J 1).val) * 128 + (J 2).val) / 32 % 4) * 32 + (((J 0).val * 16 + (J 1).val) * 128 + (J 2).val) % 32
      = ((J 0).val * 16 + (J 1).val) * 128 + (J 2).val := by omega
  funext d
  match d with
  | ⟨0, _⟩ =>
    apply Fin.ext
    show (((((((J 0).val * 16 + (J 1).val) * 128 + (J 2).val) / 2048) * 16 + (((J 0).val * 16 + (J 1).val) * 128 + (J 2).val) / 128 % 16) * 4 + (((J 0).val * 16 + (J 1).val) * 128 + (J 2).val) / 32 % 4) * 32 + (((J 0).val * 16 + (J 1).val) * 128 + (J 2).val) % 32) / 2048
      = (J 0).val
    rw [e]; omega
  | ⟨1, _⟩ =>
    apply Fin.ext
    show (((((((J 0).val * 16 + (J 1).val) * 128 + (J 2).val) / 2048) * 16 + (((J 0).val * 16 + (J 1).val) * 128 + (J 2).val) / 128 % 16) * 4 + (((J 0).val * 16 + (J 1).val) * 128 + (J 2).val) / 32 % 4) * 32 + (((J 0).val * 16 + (J 1).val) * 128 + (J 2).val) % 32) / 128 % 16
      = (J 1).val
    rw [e]; omega
  | ⟨2, _⟩ =>
    apply Fin.ext
    show (((((((J 0).val * 16 + (J 1).val) * 128 + (J 2).val) / 2048) * 16 + (((J 0).val * 16 + (J 1).val) * 128 + (J 2).val) / 128 % 16) * 4 + (((J 0).val * 16 + (J 1).val) * 128 + (J 2).val) / 32 % 4) * 32 + (((J 0).val * 16 + (J 1).val) * 128 + (J 2).val) % 32) % 128
      = (J 2).val
    rw [e]; omega

/-- The edge array read by node and place, then by row, is the edge array: row `r` belongs to node `r / 16`, place
    `r % 16`. -/
theorem row_of_edge (i : S160000x128.Idx) (l : Fin 128) (J : S10000x16x128.Idx) (hJ : J = idx_main_v117 i) (k : Fin 128) :
    idx_main_v3 (lidx_main_v97 (lidx_main_v113 J k) l) = ix2 (i 0) l := by
  subst hJ
  have h0 : (i 0).val < 160000 := (i 0).isLt
  have h1 : (i 1).val < 128 := (i 1).isLt
  have hl : l.val < 128 := l.isLt
  funext d
  match d with
  | ⟨0, _⟩ =>
    apply Fin.ext
    show (((((i 0).val * 128 + (i 1).val) / 2048) * 16 + ((i 0).val * 128 + (i 1).val) / 128 % 16) * 128 + l.val) / 128
      = (i 0).val
    omega
  | ⟨1, _⟩ =>
    apply Fin.ext
    show (((((i 0).val * 128 + (i 1).val) / 2048) * 16 + ((i 0).val * 128 + (i 1).val) / 128 % 16) * 128 + l.val) % 128
      = l.val
    omega

/-- The reference's result at row `r` and column `k`: the edge's features through the value projection and its bias,
    then through the output projection and its bias. -/
theorem result_apply (h2 : AllReal x2) (h6 : AllReal x6) (h7 : AllReal x7) (h8 : AllReal x8) (h9 : AllReal x9)
    (i : S160000x128.Idx) :
    val_main_v117 (F := Ideal) x0 x1 x2 x3 x4 x5 x6 x7 x8 x9 x10 x11 x12 x13 i
      = (∑ j : Fin 128, ((∑ l : Fin 128, (x2 (ix2 (i 0) l) : EReal) * x10 (ix2 l j)) + x11 (ix1 j)) * x12 (ix2 j (i 1)))
        + x13 (ix1 (i 1)) := by
  have h0 : (i 0).val < 160000 := (i 0).isLt
  have h1 : (i 1).val < 128 := (i 1).isLt
  have ek : (((i 0).val * 128 + (i 1).val) % 128) = (i 1).val := by omega
  have ev : ∀ k l : Fin 128, ridx_main_v97 (lidx_main_v113 (idx_main_v117 i) k) l = ix2 l k := fun k l =>
    funext fun d => match d with
      | ⟨0, _⟩ => rfl
      | ⟨1, _⟩ => rfl
  have eb : ∀ k : Fin 128, idx_main_v98 (idx_main_v99 (lidx_main_v113 (idx_main_v117 i) k)) = ix1 k := fun k =>
    funext fun d => match d with
      | ⟨0, _⟩ => rfl
  have eo : ∀ k : Fin 128, ridx_main_v113 (idx_main_v117 i) k = ix2 k (i 1) := fun k =>
    funext fun d => match d with
      | ⟨0, _⟩ => rfl
      | ⟨1, _⟩ => Fin.ext ek
  have ed : idx_main_v114 (idx_main_v115 (idx_main_v117 i)) = ix1 (i 1) :=
    funext fun d => match d with
      | ⟨0, _⟩ => Fin.ext ek
  have e : ∀ k : Fin 128, val_main_v112 (F := Ideal) x0 x1 x2 x3 x4 x5 x6 x7 x8 x9 x10 x11 (lidx_main_v113 (idx_main_v117 i) k)
      = (∑ l : Fin 128, (x2 (ix2 (i 0) l) : EReal) * x10 (ix2 l k)) + x11 (ix1 k) := fun k => by
    rw [val_main_v112_apply, update_eq_value x0 x1 x2 x3 x4 x5 x6 x7 x8 x9 x10 x11 h2 h6 h7 h8 h9, val_main_v101_apply,
      heads_joined, val_main_v100_apply, val_main_v97_apply, val_main_v99_apply, val_main_v98_apply, eb k, Ideal.addf_def]
    exact congrArg (fun s : EReal => s + x11 (ix1 k)) (Finset.sum_congr rfl fun l _ => by
      rw [val_main_v3_apply, row_of_edge i l _ rfl k, ev k l]; rfl)
  rw [val_main_v117_apply, val_main_v116_apply, val_main_v113_apply, val_main_v115_apply, val_main_v114_apply, ed,
    Ideal.addf_def]
  exact congrArg (fun s : EReal => s + x13 (ix1 (i 1))) (Finset.sum_congr rfl fun k _ => by rw [e k, eo k]; rfl)

end Stages

end Cert.ReferenceIdeal.Scores

end
-- ==== Proof.Equation.lean ====
/-
  The equation between the two programs.

  The reference applies the value projection and then the output projection; the kernel multiplies the two matrices first
  and applies the product. On real edge features and real matrices the two orders give the same sums.
-/
module

public import proofs.«01_k».proof.Proof.KernelValue
public import proofs.«01_k».proof.Proof.RefValue

@[expose] public section

set_option maxRecDepth 16384

noncomputable section

namespace Cert.Equation

open Idealize.ShloMosaic Idealize.ShloMosaic.TcCoe Idealize.SL.Sem Idealize.ShloMosaic.ValueIdx
open Cert.Reals Cert.ReferenceIdeal Cert.ReferenceIdeal.Read Cert.ReferenceIdeal.Scores

/-- The reference's result is the kernel's combined map of the same arrays, where the arrays it needs hold real numbers. -/
theorem reference_eq_affine (x0 : Arr S10000x128) (x1 : Arr S10000x3) (x2 : Arr S160000x128)
    (x3 : (⟨S2x160000, .i32⟩ : BufTy).Contents (Elt Ideal)) (x4 : Arr S256x4) (x5 : Arr S4) (x6 : Arr S64x4) (x7 : Arr S4)
    (x8 : Arr S128x256) (x9 : Arr S256) (x10 : Arr S128x128) (x11 : Arr S128) (x12 : Arr S128x128) (x13 : Arr S128)
    (h2 : AllReal x2) (h6 : AllReal x6) (h7 : AllReal x7) (h8 : AllReal x8) (h9 : AllReal x9) (h10 : AllReal x10)
    (h12 : AllReal x12) :
    val_main_v117 (F := Ideal) x0 x1 x2 x3 x4 x5 x6 x7 x8 x9 x10 x11 x12 x13
      = Cert.KernelIdeal.Rows.affine x2 x10 x11 x12 x13 := by
  funext i
  refine (result_apply x0 x1 x2 x3 x4 x5 x6 x7 x8 x9 x10 x11 x12 x13 h2 h6 h7 h8 h9 i).trans ?_
  exact two_layers (fun l : Fin 128 => (x2 (ix2 (i 0) l) : EReal)) (fun l j : Fin 128 => (x10 (ix2 l j) : EReal))
    (fun j => (x11 (ix1 j) : EReal)) (fun j => (x12 (ix2 j (i 1)) : EReal)) (x13 (ix1 (i 1)))
    (fun l => h2 _) (fun l j => h10 _) (fun j => h12 _)

end Cert.Equation

end
-- ==== Proof.lean ====
/-
  The claims about the projection kernel, put together.

  The kernel and the reference both end with their arguments unchanged and every semaphore counter at zero. Over the
  extended reals, on inputs the precondition admits, they end with the same result array. `KernelBlock` reads what one
  grid point computes, `KernelValue` what the result array holds, `RefScores` and `RefValue` what the reference computes,
  `Finite` what the precondition says and `Equation` why the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Read
public import proofs.«01_k».proof.Proof.Gen.ReferenceIdeal.Run
public import proofs.«01_k».proof.Proof.Finite
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments as launched and every counter at zero. -/
theorem frame_kernel : Cert.quiescent_Kernel := fun m ρ _ => Cert.Kernel.Gen.frame m ρ

/-- So does the kernel at the extended reals, -/
theorem frame_ideal : Cert.quiescent_KernelIdeal := fun m ρ _ => Cert.KernelIdeal.Gen.frame m ρ

/-- and under the precondition. -/
theorem frame_ideal_pre : Cert.quiescent_KernelIdeal_pre_finite_inputs := fun m ρ _ => Cert.KernelIdeal.Gen.frame m ρ

/-- The reference ends with its arguments as launched; it has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_finite_inputs := fun m ρ _ => frame_reference m ρ trivial

/-- The kernel read at the extended reals is the kernel: no operation was replaced. -/
theorem preserves : Cert.preserves_Kernel_KernelIdeal := trivial

/-- Under the precondition the kernel and the reference end with the same result array: both hold the combined map of the
    argument arrays. -/
theorem algebraic : Cert.algebraic_KernelIdeal_ReferenceIdeal_pre_finite_inputs := by
  intro m ρ m' ρ' hpre hagree
  refine ⟨fun c => Cert.KernelIdeal.Rows.combined m c, ?_, ?_⟩
  · exact (θ_run Cert.KernelIdeal.defs _ _).mono
      (fun _ h c => ⟨(h c).1.trans (Cert.KernelIdeal.Rows.result_eq m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  obtain ⟨h2, h6, h7, h8, h9, h10, h12⟩ := Cert.Finite.arguments_real m hpre c
  rw [Cert.ReferenceIdeal.Read.val_main_v117_eq, a0, a1, a2, a3, a4, a5, a6, a7, a8, a9, a10, a11, a12, a13]
  exact Cert.Equation.reference_eq_affine _ _ _ _ _ _ _ _ _ _ _ _ _ _ h2 h6 h7 h8 h9 h10 h12

/-- All the claims. -/
theorem claim : Cert.Claim :=
  ⟨Cert.Kernel.Gen.facts, Cert.KernelIdeal.Gen.facts, Cert.ReferenceIdeal.Gen.facts, Cert.Pre_finite_inputs.Gen.facts,
    frame_kernel, frame_ideal, frame_ideal_pre, frame_reference, frame_reference_pre, preserves, algebraic⟩

end Cert.Proof

end
